-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16384x100 : Shape := ⟨2, ![16384, 100]⟩
abbrev S1000000x100 : Shape := ⟨2, ![1000000, 100]⟩
abbrev S16384 : Shape := ⟨1, ![16384]⟩
abbrev S100 : Shape := ⟨1, ![100]⟩
abbrev S1x100 : Shape := ⟨2, ![1, 100]⟩
abbrev S16384x1 : Shape := ⟨2, ![16384, 1]⟩
abbrev S_ : Shape := ⟨0, ![]⟩

class Facts : Prop where
  bcast_S100_S1x100_1 : S100.BroadcastsInDim S1x100 (![1] : Fin 1 → Fin S1x100.rank)
  bcast_S16384_S16384x1_0 : S16384.BroadcastsInDim S16384x1 (![0] : Fin 1 → Fin S16384x1.rank)
  bcast_S1x100_S16384x100_0_1 : S1x100.BroadcastsInDim S16384x100 (![0, 1] : Fin 2 → Fin S16384x100.rank)
  bcast_S16384x1_S16384x100_0_1 : S16384x1.BroadcastsInDim S16384x100 (![0, 1] : Fin 2 → Fin S16384x100.rank)
  bcast_S_S16384x100 : S_.BroadcastsInDim S16384x100 (![] : Fin 0 → Fin S16384x100.rank)
  reducesTo_S16384x100_S_d0_1 : S16384x100.ReducesTo [0, 1] S_
  h_S_ : 0 < S_.numel
  reducesTo_S16384x100_S16384_d1 : S16384x100.ReducesTo [1] S16384
  reducesTo_S16384_S_d0 : S16384.ReducesTo [0] S_
  bcast_S_S16384 : S_.BroadcastsInDim S16384 (![] : Fin 0 → Fin S16384.rank)

variable [Facts]

def fn_part1 {F : FTy → Type} [FloatOps F] (main_arg2 : IVec S16384 32) (main_v14 : IVec S_ 1) (main_v16 : IVec S16384 1) (main_c_4 : IVec S_ 32) : IVec S_ 1 :=
  let main_v17 : IVec S16384 32 := broadcastInDim S16384 ![] bcast_S_S16384 main_c_4
  let main_v18 : IVec S16384 1 := cmpi .slt main_arg2 main_v17
  let main_v19 : IVec S16384 1 := andi main_v16 main_v18
  let main_c_5 : IVec S_ 1 := constantI S_ 1 1#1
  let main_v20 : IVec S_ 1 := (fun x v => Host.reduce IntOp.andi x v reducesTo_S16384_S_d0 h_S_) main_v19 main_c_5
  let main_v21 : IVec S_ 1 := andi main_v14 main_v20
  main_v21

def fn {F : FTy → Type} [FloatOps F] (main_arg0 : FVec F S16384x100 .f32) (main_arg1 : FVec F S1000000x100 .f32) (main_arg2 : IVec S16384 32) (main_arg3 : IVec S16384 32) : IVec S_ 1 :=
  let main_v0 : IVec S100 32 := iotaInDim S100 32 0
  let main_v1 : IVec S1x100 32 := broadcastInDim S1x100 ![1] bcast_S100_S1x100_1 main_v0
  let main_v2 : IVec S16384x1 32 := broadcastInDim S16384x1 ![0] bcast_S16384_S16384x1_0 main_arg2
  let main_v3 : IVec S16384x100 32 := broadcastInDim S16384x100 ![0, 1] bcast_S1x100_S16384x100_0_1 main_v1
  let main_v4 : IVec S16384x100 32 := broadcastInDim S16384x100 ![0, 1] bcast_S16384x1_S16384x100_0_1 main_v2
  let main_v5 : IVec S16384x100 1 := cmpi .ne main_v3 main_v4
  let main_cst : FVec F S_ .f32 := constant S_ .f32 0x7F800000#32
  let main_v6 : FVec F S16384x100 .f32 := broadcastInDim S16384x100 ![] bcast_S_S16384x100 main_cst
  let main_v7 : IVec S16384x100 1 := cmpf .olt main_arg0 main_v6
  let main_v8 : IVec S16384x100 1 := ori main_v5 main_v7
  let main_c : IVec S_ 1 := constantI S_ 1 1#1
  let main_v9 : IVec S_ 1 := (fun x v => Host.reduce IntOp.andi x v reducesTo_S16384x100_S_d0_1 h_S_) main_v8 main_c
  let main_cst_0 : FVec F S_ .f32 := constant S_ .f32 0xFF800000#32
  let main_v10 : FVec F S16384x100 .f32 := broadcastInDim S16384x100 ![] bcast_S_S16384x100 main_cst_0
  let main_v11 : IVec S16384x100 1 := cmpf .ogt main_arg0 main_v10
  let main_c_1 : IVec S_ 1 := constantI S_ 1 0#1
  let main_v12 : IVec S16384 1 := (fun x v => Host.reduce IntOp.ori x v reducesTo_S16384x100_S16384_d1 h_S_) main_v11 main_c_1
  let main_c_2 : IVec S_ 1 := constantI S_ 1 1#1
  let main_v13 : IVec S_ 1 := (fun x v => Host.reduce IntOp.andi x v reducesTo_S16384_S_d0 h_S_) main_v12 main_c_2
  let main_v14 : IVec S_ 1 := andi main_v9 main_v13
  let main_c_3 : IVec S_ 32 := constantI S_ 32 0#32
  let main_v15 : IVec S16384 32 := broadcastInDim S16384 ![] bcast_S_S16384 main_c_3
  let main_v16 : IVec S16384 1 := cmpi .sge main_arg2 main_v15
  let main_c_4 : IVec S_ 32 := constantI S_ 32 100#32
  fn_part1 (F := F) main_arg2 main_v14 main_v16 main_c_4
-- ==== Kernel.lean ====
abbrev S16384x100 : Shape := ⟨2, ![16384, 100]⟩
abbrev S1000000x100 : Shape := ⟨2, ![1000000, 100]⟩
abbrev S16384 : Shape := ⟨1, ![16384]⟩
abbrev S1x1 : Shape := ⟨2, ![1, 1]⟩
abbrev S2048x100 : Shape := ⟨2, ![2048, 100]⟩
abbrev S2048 : Shape := ⟨1, ![2048]⟩
abbrev S1x100 : Shape := ⟨2, ![1, 100]⟩
abbrev S1x2048 : Shape := ⟨2, ![1, 2048]⟩
abbrev S1x1x2048 : Shape := ⟨3, ![1, 1, 2048]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 16
  | .smem => 1
  | _ => 0

abbrev bufTy : (tb : Table) → Fin (tcTables nBuf tb) → BufTy
  | .hbm, ⟨0, _⟩ => ⟨S16384x100, .f32⟩
  | .hbm, ⟨1, _⟩ => ⟨S1000000x100, .f32⟩
  | .hbm, ⟨2, _⟩ => ⟨S16384, .i32⟩
  | .hbm, ⟨3, _⟩ => ⟨S16384, .i32⟩
  | .hbm, ⟨4, _⟩ => ⟨S1x1, .f32⟩
  | .hbm, ⟨5, _⟩ => ⟨S_, .f32⟩
  | .local _ .vmem, ⟨0, _⟩ => ⟨S2048x100, .f32⟩
  | .local _ .vmem, ⟨1, _⟩ => ⟨S2048x100, .f32⟩
  | .local _ .vmem, ⟨2, _⟩ => ⟨S2048x100, .f32⟩
  | .local _ .vmem, ⟨3, _⟩ => ⟨S2048x100, .f32⟩
  | .local _ .vmem, ⟨4, _⟩ => ⟨S2048x100, .f32⟩
  | .local _ .vmem, ⟨5, _⟩ => ⟨S2048x100, .f32⟩
  | .local _ .vmem, ⟨6, _⟩ => ⟨S2048x100, .f32⟩
  | .local _ .vmem, ⟨7, _⟩ => ⟨S2048x100, .f32⟩
  | .local _ .vmem, ⟨8, _⟩ => ⟨S2048, .i32⟩
  | .local _ .vmem, ⟨9, _⟩ => ⟨S2048, .i32⟩
  | .local _ .vmem, ⟨10, _⟩ => ⟨S2048, .i32⟩
  | .local _ .vmem, ⟨11, _⟩ => ⟨S2048, .i32⟩
  | .local _ .vmem, ⟨12, _⟩ => ⟨S2048, .i32⟩
  | .local _ .vmem, ⟨13, _⟩ => ⟨S2048, .i32⟩
  | .local _ .vmem, ⟨14, _⟩ => ⟨S2048, .i32⟩
  | .local _ .vmem, ⟨15, _⟩ => ⟨S2048, .i32⟩
  | .local _ .smem, ⟨0, _⟩ => ⟨S1x1, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c2_i32 : BitVec 32 := 2#32
  let v0 : BitVec 32 := Scalar.addi arg0 c2_i32
  let c0_i32 : BitVec 32 := 0#32
  ![v0.toNat]

def cc0_transform_6 (i : grid0.Coords) : Fin 1 → Nat :=
  let arg0 : BitVec 32 := BitVec.ofNat 32 (i 0).val
  let c4_i32 : BitVec 32 := 4#32
  let v0 : BitVec 32 := Scalar.addi arg0 c4_i32
  let c0_i32 : BitVec 32 := 0#32
  ![v0.toNat]

def cc0_transform_7 (i : grid0.Coords) : Fin 1 → Nat :=
  let arg0 : BitVec 32 := BitVec.ofNat 32 (i 0).val
  let c6_i32 : BitVec 32 := 6#32
  let v0 : BitVec 32 := Scalar.addi arg0 c6_i32
  let c0_i32 : BitVec 32 := 0#32
  ![v0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x100 : Shape := ⟨2, ![16384, 100]⟩
abbrev S1000000x100 : Shape := ⟨2, ![1000000, 100]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x1x1 : Shape := ⟨3, ![16384, 1, 1]⟩
abbrev S1x1x1 : Shape := ⟨3, ![1, 1, 1]⟩

abbrev nBuf : Space → Nat
  | .hbm => 150
  | .vmem => 0
  | .smem => 0
  | _ => 0

abbrev hbmTy0_0 (i : Nat) : BufTy := match i % 128 with
  | 0 => ⟨S16384x100, .f32⟩
  | 1 => ⟨S1000000x100, .f32⟩
  | 2 => ⟨S16384, .i32⟩
  | 3 => ⟨S16384, .i32⟩
  | 4 => ⟨S_, .f32⟩
  | 5 => ⟨S16384, .f32⟩
  | 6 => ⟨S_, .f32⟩
  | 7 => ⟨S16384, .f32⟩
  | 8 => ⟨S16384, .f32⟩
  | 9 => ⟨S16384x1, .f32⟩
  | 10 => ⟨S16384x100, .f32⟩
  | 11 => ⟨S16384x100, .f32⟩
  | 12 => ⟨S16384x100, .f32⟩
  | 13 => ⟨S_, .f32⟩
  | 14 => ⟨S16384, .f32⟩
  | 15 => ⟨S16384x1, .f32⟩
  | 16 => ⟨S16384x100, .f32⟩
  | 17 => ⟨S16384x100, .f32⟩
  | 18 => ⟨S_, .f32⟩
  | 19 => ⟨S_, .f32⟩
  | 20 => ⟨S_, .f32⟩
  | 21 => ⟨S16384x100, .f32⟩
  | 22 => ⟨S16384x100, .f32⟩
  | 23 => ⟨S_, .f32⟩
  | 24 => ⟨S16384x100, .f32⟩
  | 25 => ⟨S16384x100, .f32⟩
  | 26 => ⟨S_, .f32⟩
  | 27 => ⟨S16384, .f32⟩
  | 28 => ⟨S16384x1, .f32⟩
  | 29 => ⟨S16384x100, .f32⟩
  | 30 => ⟨S16384x100, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S1, .i32⟩
  | 40 => ⟨S_, .i32⟩
  | 41 => ⟨S16384x1, .i32⟩
  | 42 => ⟨S16384x1, .i1⟩
  | 43 => ⟨S1x1, .i32⟩
  | 44 => ⟨S16384x1, .i32⟩
  | 45 => ⟨S16384x1, .i1⟩
  | 46 => ⟨S16384x1, .i1⟩
  | 47 => ⟨S_, .i1⟩
  | 48 => ⟨S16384, .i1⟩
  | 49 => ⟨S16384x100, .f32⟩
  | 50 => ⟨S16384x100, .i1⟩
  | 51 => ⟨S_, .f32⟩
  | 52 => ⟨S16384x100, .f32⟩
  | 53 => ⟨S16384x100, .f32⟩
  | 54 => ⟨S_, .f32⟩
  | 55 => ⟨S16384x100, .f32⟩
  | 56 => ⟨S16384x100, .f32⟩
  | 57 => ⟨S_, .f32⟩
  | 58 => ⟨S16384x100, .f32⟩
  | 59 => ⟨S16384x100, .f32⟩
  | 60 => ⟨S16384x100, .f32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1000000x100, .f32⟩
  | 70 => ⟨S_, .f32⟩
  | 71 => ⟨S16384, .f32⟩
  | 72 => ⟨S_, .f32⟩
  | 73 => ⟨S16384, .f32⟩
  | 74 => ⟨S16384, .f32⟩
  | 75 => ⟨S16384x1, .f32⟩
  | 76 => ⟨S16384x100, .f32⟩
  | 77 => ⟨S16384x100, .f32⟩
  | 78 => ⟨S16384x100, .f32⟩
  | 79 => ⟨S_, .f32⟩
  | 80 => ⟨S16384, .f32⟩
  | 81 => ⟨S16384x1, .f32⟩
  | 82 => ⟨S16384x1, .f32⟩
  | 83 => ⟨S16384x100, .f32⟩
  | 84 => ⟨S16384x100, .f32⟩
  | 85 => ⟨S16384x1, .i32⟩
  | 86 => ⟨S_, .i32⟩
  | 87 => ⟨S16384x1, .i32⟩
  | 88 => ⟨S16384x1, .i1⟩
  | 89 => ⟨S_, .i32⟩
  | 90 => ⟨S16384x1, .i32⟩
  | 91 => ⟨S16384x1, .i32⟩
  | 92 => ⟨S16384x1, .i32⟩
  | 93 => ⟨S16384x1x1, .i32⟩
  | 94 => ⟨S1, .i32⟩
  | 95 => ⟨S_, .i32⟩
  | 96 => ⟨S16384x1x1, .i32⟩
  | 97 => ⟨S16384x1x1, .i1⟩
  | 98 => ⟨S1x1x1, .i32⟩
  | 99 => ⟨S16384x1x1, .i32⟩
  | 100 => ⟨S16384x1x1, .i1⟩
  | 101 => ⟨S16384x1x1, .i1⟩
  | 102 => ⟨S_, .i1⟩
  | 103 => ⟨S16384x1, .i1⟩
  | 104 => ⟨S16384x1, .f32⟩
  | 105 => ⟨S_, .f32⟩
  | 106 => ⟨S16384x1, .f32⟩
  | 107 => ⟨S16384x1, .f32⟩
  | 108 => ⟨S_, .f32⟩
  | 109 => ⟨S_, .f32⟩
  | 110 => ⟨S_, .f32⟩
  | 111 => ⟨S_, .f32⟩
  | 112 => ⟨S_, .f32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S1, .i32⟩
  | 122 => ⟨S_, .i32⟩
  | 123 => ⟨S16384x1, .i32⟩
  | 124 => ⟨S16384x1, .i1⟩
  | 125 => ⟨S1x1, .i32⟩
  | 126 => ⟨S16384x1, .i32⟩
  | 127 => ⟨S16384x1, .i1⟩
  | _ => ⟨S16384x100, .f32⟩

abbrev hbmTy0_1 (i : Nat) : BufTy := match i % 128 with
  | 0 => ⟨S16384x1, .i1⟩
  | 1 => ⟨S_, .i1⟩
  | 2 => ⟨S16384, .i1⟩
  | 3 => ⟨S16384x100, .f32⟩
  | 4 => ⟨S16384x100, .i1⟩
  | 5 => ⟨S_, .f32⟩
  | 6 => ⟨S16384x100, .f32⟩
  | 7 => ⟨S16384x100, .f32⟩
  | 8 => ⟨S16384x100, .f32⟩
  | 9 => ⟨S_, .f32⟩
  | 10 => ⟨S16384, .f32⟩
  | 11 => ⟨S_, .f32⟩
  | 12 => ⟨S16384, .f32⟩
  | 13 => ⟨S16384, .f32⟩
  | 14 => ⟨S16384, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S16384x100, .f32⟩

abbrev hbmTy (i : Nat) : BufTy := match i / 128 with
  | 0 => hbmTy0_0 i
  | 1 => hbmTy0_1 i
  | _ => ⟨S16384x100, .f32⟩

abbrev bufTy : (tb : Table) → Fin (tcTables nBuf tb) → BufTy
  | .hbm, ⟨i, _⟩ => hbmTy i
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v16 : Ref sig .tc := ⟨.hbm, 53, rfl⟩
abbrev main_cst_5 : Ref sig .tc := ⟨.hbm, 54, rfl⟩
abbrev main_v17 : Ref sig .tc := ⟨.hbm, 55, rfl⟩
abbrev main_v18 : Ref sig .tc := ⟨.hbm, 56, rfl⟩
abbrev main_cst_6 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_c : Ref sig .tc := ⟨.hbm, 61, rfl⟩
abbrev main_v22 : Ref sig .tc := ⟨.hbm, 62, rfl⟩
abbrev main_v23 : Ref sig .tc := ⟨.hbm, 63, rfl⟩
abbrev main_c_7 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_call2_cst : Ref sig .tc := ⟨.hbm, 70, rfl⟩
abbrev main_call2_v0 : Ref sig .tc := ⟨.hbm, 71, rfl⟩
abbrev main_call2_cst_0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_cst_1 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_v29 : Ref sig .tc := ⟨.hbm, 84, rfl⟩
abbrev main_v30 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_cst : Ref sig .tc := ⟨.hbm, 105, rfl⟩
abbrev main_call3_v14 : Ref sig .tc := ⟨.hbm, 106, rfl⟩
abbrev main_v31 : Ref sig .tc := ⟨.hbm, 107, rfl⟩
abbrev main_cst_8 : Ref sig .tc := ⟨.hbm, 108, rfl⟩
abbrev main_v32 : Ref sig .tc := ⟨.hbm, 109, rfl⟩
abbrev main_cst_9 : Ref sig .tc := ⟨.hbm, 110, rfl⟩
abbrev main_v33 : Ref sig .tc := ⟨.hbm, 111, rfl⟩
abbrev main_v34 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_cst : Ref sig .tc := ⟨.hbm, 133, rfl⟩
abbrev main_call4_v15 : Ref sig .tc := ⟨.hbm, 134, rfl⟩
abbrev main_v35 : Ref sig .tc := ⟨.hbm, 135, rfl⟩
abbrev main_v36 : Ref sig .tc := ⟨.hbm, 136, rfl⟩
abbrev main_cst_10 : Ref sig .tc := ⟨.hbm, 137, rfl⟩
abbrev main_v37 : Ref sig .tc := ⟨.hbm, 138, rfl⟩
abbrev main_cst_11 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_cst_12 : Ref sig .tc := ⟨.hbm, 143, rfl⟩
abbrev main_v41 : Ref sig .tc := ⟨.hbm, 144, rfl⟩
abbrev main_cst_13 : Ref sig .tc := ⟨.hbm, 145, rfl⟩
abbrev main_v42 : Ref sig .tc := ⟨.hbm, 146, rfl⟩
abbrev main_cst_14 : Ref sig .tc := ⟨.hbm, 147, rfl⟩
abbrev main_v43 : Ref sig .tc := ⟨.hbm, 148, rfl⟩
abbrev main_v44 : Ref sig .tc := ⟨.hbm, 149, rfl⟩

abbrev nD : Nat := 1
abbrev τ : Topo := Topo.v7x

variable {F : FTy → Type} [FloatOps F]
-- ==== Proof.Rows.lean ====
/-
  The arithmetic of the loss, over the extended reals and apart from any program.

  A row of logits has a sum of exponentials, and the loss of the row at a class is the logarithm of that sum
  less the logit of the class. Shifting the row by a real number first (the reference shifts it by its maximum)
  gives the same number with its sign turned, and no row's loss is minus infinity: so the signs can be turned
  under the sum over the rows.
-/
module

public import Idealize.ShloMosaic.PureOps.Ideal.Laws

@[expose] public section

noncomputable section

namespace Cert.Rows

open Idealize.ShloMosaic

/-- The exponential of an extended real below plus infinity, as a real number: zero at minus infinity. -/
def expReal (x : EReal) : ℝ := if x = ⊥ then 0 else Real.exp x.toReal

theorem expReal_nonneg (x : EReal) : 0 ≤ expReal x := by
  unfold expReal
  split
  · exact le_rfl
  · exact (Real.exp_pos _).le

/-- Above minus infinity the exponential is positive. -/
theorem expReal_pos {x : EReal} (h : ⊥ < x) : 0 < expReal x := by
  unfold expReal
  rw [if_neg h.ne']
  exact Real.exp_pos _

theorem exp_bot : Ideal.exp ⊥ = 0 := rfl
theorem exp_coe (r : ℝ) : Ideal.exp (r : EReal) = (Real.exp r : EReal) := rfl

/-- Below plus infinity the exponential is that real number. -/
theorem exp_eq {x : EReal} (h : x < ⊤) : Ideal.exp x = (expReal x : EReal) := by
  induction x with
  | bot => simp [expReal, exp_bot]
  | coe r => simp [expReal, exp_coe]
  | top => exact absurd h (lt_irrefl _)

/-- A shift by a real number divides the exponential. -/
theorem expReal_sub {x : EReal} (h : x < ⊤) (M : ℝ) : expReal (x - (M : EReal)) = expReal x * Real.exp (-M) := by
  induction x with
  | bot => simp [expReal]
  | coe r =>
    rw [← EReal.coe_sub]
    unfold expReal
    rw [if_neg (EReal.coe_ne_bot _), if_neg (EReal.coe_ne_bot _), EReal.toReal_coe, EReal.toReal_coe, sub_eq_add_neg,
      Real.exp_add]
  | top => exact absurd h (lt_irrefl _)

theorem sub_lt_top {x : EReal} (h : x < ⊤) (M : ℝ) : x - (M : EReal) < ⊤ := by
  induction x with
  | bot => simp
  | coe r => rw [← EReal.coe_sub]; exact EReal.coe_lt_top _
  | top => exact absurd h (lt_irrefl _)

theorem coe_sum {ι : Type} (s : Finset ι) (f : ι → ℝ) : ∑ i ∈ s, (f i : EReal) = ((∑ i ∈ s, f i : ℝ) : EReal) := by
  classical
  induction s using Finset.induction_on with
  | empty => simp
  | insert a t ha ih => rw [Finset.sum_insert ha, Finset.sum_insert ha, ih, EReal.coe_add]

theorem log_coe {r : ℝ} (h : 0 < r) : Ideal.log (r : EReal) = (Real.log r : EReal) := by
  show (if r ≤ 0 then (⊥ : EReal) else (Real.log r : EReal)) = _
  rw [if_neg (not_le.mpr h)]

/-! ## One row -/

section Row
variable {n : Nat}

/-- The sum of the exponentials of a row of logits. -/
def sumExp (x : Fin n → EReal) : EReal := ∑ c, Ideal.exp (x c)

/-- The loss of a row at the class `l`. -/
def rowLoss (x : Fin n → EReal) (l : Fin n) : EReal := Ideal.log (sumExp x) - x l

/-- The greatest entry of a row. -/
def greatest (x : Fin n → EReal) : EReal := Finset.univ.fold max ⊥ x

/-- A row and a class that the loss is meant for: the entry at the class is not plus infinity, and some entry is more
    than minus infinity. -/
structure Good (x : Fin n → EReal) (l : Fin n) : Prop where
  below : x l < ⊤
  some : ∃ c, ⊥ < x c

/-- A row whose greatest entry is a real number: no entry is plus infinity, and some entry is more than minus
    infinity. -/
structure Bounded (x : Fin n → EReal) : Prop where
  below : ∀ c, x c < ⊤
  some : ∃ c, ⊥ < x c

variable {x : Fin n → EReal}

/-- The sum of the exponentials as a real number. -/
theorem sumExp_eq (h : ∀ c, x c < ⊤) : sumExp x = ((∑ c, expReal (x c) : ℝ) : EReal) := by
  unfold sumExp
  rw [← coe_sum]
  exact Finset.sum_congr rfl fun c _ => exp_eq (h c)

theorem sum_expReal_pos (h : Bounded x) : 0 < ∑ c, expReal (x c) := by
  obtain ⟨c, hc⟩ := h.some
  exact Finset.sum_pos' (fun i _ => expReal_nonneg _) ⟨c, Finset.mem_univ _, expReal_pos hc⟩

/-- The logarithm of the sum is a real number. -/
theorem log_sumExp (h : Bounded x) : Ideal.log (sumExp x) = (Real.log (∑ c, expReal (x c)) : EReal) := by
  rw [sumExp_eq h.below, log_coe (sum_expReal_pos h)]

/-- The sum over the shifted row is the sum divided, so its logarithm is shifted. -/
theorem log_sumExp_shift (h : Bounded x) (M : ℝ) :
    Ideal.log (∑ c, Ideal.exp (x c - (M : EReal))) = ((Real.log (∑ c, expReal (x c)) - M : ℝ) : EReal) := by
  have e : (∑ c, Ideal.exp (x c - (M : EReal))) = (((∑ c, expReal (x c)) * Real.exp (-M) : ℝ) : EReal) := by
    rw [Finset.sum_mul, ← coe_sum]
    exact Finset.sum_congr rfl fun c _ => by rw [exp_eq (sub_lt_top (h.below c) M), expReal_sub (h.below c)]
  have hp := sum_expReal_pos h
  rw [e, log_coe (mul_pos hp (Real.exp_pos _)), Real.log_mul hp.ne' (Real.exp_pos _).ne', Real.log_exp, sub_eq_add_neg]

/-- Such a row's loss is not minus infinity. -/
theorem Bounded.rowLoss_ne_bot (h : Bounded x) (l : Fin n) : rowLoss x l ≠ ⊥ := by
  unfold rowLoss
  rw [log_sumExp h]
  have hl := h.below l
  generalize x l = y at hl
  induction y with
  | bot => simp
  | coe r => rw [← EReal.coe_sub]; exact EReal.coe_ne_bot _
  | top => exact absurd hl (lt_irrefl _)

/-- The log-probability of the class by the shifted row is the loss with its sign turned. -/
theorem Bounded.shifted_eq_neg (h : Bounded x) (l : Fin n) (M : ℝ) :
    x l - (M : EReal) - Ideal.log (∑ c, Ideal.exp (x c - (M : EReal))) = -rowLoss x l := by
  unfold rowLoss
  rw [log_sumExp_shift h, log_sumExp h]
  have hl := h.below l
  generalize x l = y at hl
  generalize Real.log (∑ c, expReal (x c)) = s
  induction y with
  | bot => simp
  | coe r =>
    rw [← EReal.coe_sub, ← EReal.coe_sub, ← EReal.coe_sub, ← EReal.coe_neg]
    congr 1
    ring
  | top => exact absurd hl (lt_irrefl _)

/-- The maximum of such a row is a real number. -/
theorem greatest_real (h : Bounded x) : ∃ M : ℝ, greatest x = (M : EReal) := by
  have h1 : Finset.univ.fold max (⊥ : EReal) x < ⊤ :=
    (Finset.fold_max_lt _).mpr ⟨bot_lt_top, fun c _ => h.below c⟩
  have h2 : ⊥ < Finset.univ.fold max (⊥ : EReal) x := by
    obtain ⟨c, hc⟩ := h.some
    exact (Finset.lt_fold_max _).mpr (Or.inr ⟨c, Finset.mem_univ _, hc⟩)
  exact ⟨_, (EReal.coe_toReal h1.ne h2.ne').symm⟩

/-- A row that has a good class is bounded, or has an entry plus infinity. -/
theorem Good.cases {l : Fin n} (h : Good x l) : Bounded x ∨ ∃ c, x c = ⊤ := by
  by_cases hb : ∀ c, x c < ⊤
  · exact Or.inl ⟨hb, h.some⟩
  · obtain ⟨c, hc⟩ := not_forall.mp hb
    exact Or.inr ⟨c, not_lt_top_iff.mp hc⟩

/-- The loss of a row with an entry plus infinity is plus infinity at a class whose entry is less. -/
theorem rowLoss_top {c l : Fin n} (hc : x c = ⊤) (hl : x l < ⊤) : rowLoss x l = ⊤ := by
  have h0 : ∀ i, (0 : EReal) ≤ Ideal.exp (x i) := fun i => by
    generalize x i = y
    induction y with
    | bot => exact le_rfl
    | coe r => rw [exp_coe]; exact EReal.coe_nonneg.mpr (Real.exp_pos r).le
    | top => exact le_top
  have hs : sumExp x = ⊤ := by
    refine top_le_iff.mp ?_
    have := Finset.single_le_sum (f := fun i => Ideal.exp (x i)) (fun i _ => h0 i) (Finset.mem_univ c)
    rwa [show Ideal.exp (x c) = ⊤ from by rw [hc]; rfl] at this
  unfold rowLoss
  rw [hs, show Ideal.log ⊤ = ⊤ from rfl]
  generalize x l = y at hl
  induction y with
  | bot => rfl
  | coe r => exact EReal.top_sub_coe r
  | top => exact absurd hl (lt_irrefl _)

/-- Less plus infinity, the whole row is minus infinity, and so is what the logarithm of the sum is taken off. -/
theorem shifted_top (l : Fin n) : x l - ⊤ - Ideal.log (∑ c, Ideal.exp (x c - ⊤)) = ⊥ := by
  have h : ∀ c, x c - ⊤ = (⊥ : EReal) := fun c => by rw [sub_eq_add_neg, EReal.neg_top, EReal.add_bot]
  simp only [h]
  rw [sub_eq_add_neg, EReal.bot_add]

/-- No good class has the loss minus infinity. -/
theorem rowLoss_ne_bot {l : Fin n} (h : Good x l) : rowLoss x l ≠ ⊥ := by
  obtain hb | ⟨c, hc⟩ := h.cases
  · exact hb.rowLoss_ne_bot l
  · rw [rowLoss_top hc h.below]
    exact top_ne_bot

/-- The log-probability of a good class, by the row less its greatest entry, is the loss with its sign turned. -/
theorem shifted_eq_neg {l : Fin n} (h : Good x l) :
    x l - greatest x - Ideal.log (∑ c, Ideal.exp (x c - greatest x)) = -rowLoss x l := by
  obtain hb | ⟨c, hc⟩ := h.cases
  · obtain ⟨M, hM⟩ := greatest_real hb
    rw [hM]
    exact hb.shifted_eq_neg l M
  · have hg : greatest x = ⊤ := top_le_iff.mp ((Finset.le_fold_max _).mpr (Or.inr ⟨c, Finset.mem_univ _, hc.ge⟩))
    rw [hg, rowLoss_top hc h.below, EReal.neg_top]
    exact shifted_top l

end Row

/-! ## All rows -/

/-- A sum with no term at minus infinity is not minus infinity. -/
theorem sum_ne_bot {ι : Type} (s : Finset ι) (T : ι → EReal) (h : ∀ i ∈ s, T i ≠ ⊥) : ∑ i ∈ s, T i ≠ ⊥ := by
  classical
  induction s using Finset.induction_on with
  | empty => simp
  | insert a t ha ih =>
    rw [Finset.sum_insert ha]
    have h1 := h a (Finset.mem_insert_self _ _)
    have h2 := ih fun i hi => h i (Finset.mem_insert_of_mem hi)
    intro e
    rcases EReal.add_eq_bot_iff.mp e with e | e
    · exact h1 e
    · exact h2 e

/-- There the sign comes out of the sum. -/
theorem sum_neg {ι : Type} (s : Finset ι) (T : ι → EReal) (h : ∀ i ∈ s, T i ≠ ⊥) : ∑ i ∈ s, -T i = -∑ i ∈ s, T i := by
  classical
  induction s using Finset.induction_on with
  | empty => simp
  | insert a t ha ih =>
    have h1 := h a (Finset.mem_insert_self _ _)
    have ht : ∀ i ∈ t, T i ≠ ⊥ := fun i hi => h i (Finset.mem_insert_of_mem hi)
    rw [Finset.sum_insert ha, Finset.sum_insert ha, ih ht, EReal.neg_add (Or.inl h1) (Or.inr (sum_ne_bot t T ht)),
      sub_eq_add_neg]

/-! ## The two scales -/

/-- The kernel's factor is one part in 16384. -/
theorem ofBits_scale : Ideal.ofBits .f32 0x38800000#32 = (((1 : ℝ) / 16384 : ℝ) : EReal) := by
  simp [Ideal.ofBits, Ideal.ieee]
  rw [← EReal.coe_mul]
  exact congrArg _ (by norm_num)

/-- The reference's divisor is 16384. -/
theorem ofBits_count : Ideal.ofBits .f32 0x46800000#32 = ((16384 : ℝ) : EReal) := by
  simp [Ideal.ofBits, Ideal.ieee]
  rw [← EReal.coe_mul]
  exact congrArg _ (by norm_num)

/-- The least of the floats. -/
theorem ofBits_bot : Ideal.ofBits .f32 0xFF800000#32 = ⊥ := by
  simp [Ideal.ofBits, Ideal.ieee]

/-- The greatest of the floats. -/
theorem ofBits_top : Ideal.ofBits .f32 0x7F800000#32 = ⊤ := by
  simp [Ideal.ofBits, Ideal.ieee]

/-- Dividing the sum with its sign turned, and turning the sign again, is scaling the sum. -/
theorem mean_eq (s : EReal) : -Ideal.div (-s) (Ideal.ofBits .f32 0x46800000#32) = s * Ideal.ofBits .f32 0x38800000#32 := by
  rw [ofBits_count, ofBits_scale]
  unfold Ideal.div
  rw [if_neg (by simp), ← EReal.coe_inv, EReal.neg_mul, neg_neg]
  norm_num

/-! ## The rows in blocks -/

/-- Row `r` of block `b`. -/
def rowOf (b : Fin 8) (r : Fin 2048) : Fin 16384 := ⟨2048 * b.val + r.val, by omega⟩

/-- A sum over all the rows is the sum over the blocks of the sums over their rows. -/
theorem sum_blocks (T : Fin 16384 → EReal) : ∑ i, T i = ∑ b : Fin 8, ∑ r : Fin 2048, T (rowOf b r) := by
  rw [← Fintype.sum_prod_type' (f := fun b r => T (rowOf b r))]
  exact (Equiv.sum_comp (finProdFinEquiv (m := 8) (n := 2048)) T).symm.trans (Finset.sum_congr rfl fun p _ =>
    congrArg T (Fin.ext (by show p.2.val + 2048 * p.1.val = _; unfold rowOf; dsimp only; omega)))

end Cert.Rows

end
-- ==== Proof.Quarter.lean ====
/-
  What the kernel's body makes of one of its four windows of rows at a grid point, over the extended reals: the
  sum over the window's 2048 rows of the row's loss at its label, whenever each label is the number of a class.

  The body sums the exponentials of each row by a product with a row of ones, picks the label's logit by
  comparing the column number with the label (both as floats) and a second product with the ones, and adds up the
  differences. The four windows are treated alike: `pay_four` says that the payload the body stores is the sum of
  the four, added to what the result held.
-/
module

public import proofs.«01_k».proof.Proof.Gen.KernelIdeal.Skeleton
public import proofs.«01_k».proof.Proof.Rows
public import Idealize.ShloMosaic.Lib.Pipeline.Value
public import Idealize.ShloMosaic.Lib.ValueIdx

@[expose] public section

noncomputable section

namespace Cert.Quarter

open Cert.KernelIdeal Cert.KernelIdeal.Gen Idealize.ShloMosaic Idealize.ShloMosaic.ValueIdx

/-! ## The two products with ones -/

/-- The row of ones that the body multiplies by. -/
theorem ones_apply (i : S1x100.Idx) : k0_pay3 (F := Ideal) i = 1 := by
  show Ideal.ofBits .f32 0x3F800000#32 = 1
  simp [Ideal.ofBits, Ideal.ieee]
  rw [← EReal.coe_mul]
  exact congrArg Real.toEReal (by norm_num)

/-- The product of the ones with a block's rows sums each row. -/
theorem sum_rows (y : FVec Ideal S2048x100 .f32) (r : Fin 2048) :
    matmul dot_S1x100_S2048x100_S1x2048_1_1_0_0_n_n none (k0_pay3 (F := Ideal)) y
      (constant S1x2048 .f32 0x00000000#32) (ix2 0 r) = ∑ c : Fin 100, y (ix2 r c) := by
  rw [show matmul dot_S1x100_S2048x100_S1x2048_1_1_0_0_n_n none (k0_pay3 (F := Ideal)) y
    (constant S1x2048 .f32 0x00000000#32) (ix2 0 r) = _ from Ideal.matmul_constant_zero_apply _ _ _ _ _]
  rw [← Equiv.sum_comp (contrEquiv1 dot_S1x100_S2048x100_S1x2048_1_1_0_0_n_n 100 rfl rfl).symm]
  refine Finset.sum_congr rfl fun c _ => ?_
  rw [ones_apply, one_mul]
  congr 1
  funext a
  apply Fin.ext
  match a with
  | ⟨0, _⟩ => rfl
  | ⟨1, _⟩ => rfl

/-- The product of a row of 2048 numbers, stood up as a column, with the ones repeats each along its row. -/
theorem spread (v : FVec Ideal S2048 .f32) (r : Fin 2048) (c : Fin 100) :
    matmul dot_S1x2048_S1x100_S2048x100_0_0_1_1_n_n none (shapeCast S1x2048 v shapeCasts_S2048_S1x2048)
      (k0_pay3 (F := Ideal)) (constant S2048x100 .f32 0x00000000#32) (ix2 r c) = v (ix1 r) := by
  rw [show matmul dot_S1x2048_S1x100_S2048x100_0_0_1_1_n_n none (shapeCast S1x2048 v shapeCasts_S2048_S1x2048)
    (k0_pay3 (F := Ideal)) (constant S2048x100 .f32 0x00000000#32) (ix2 r c) = _
    from Ideal.matmul_constant_zero_apply _ _ _ _ _]
  rw [← Equiv.sum_comp (contrEquiv1 dot_S1x2048_S1x100_S2048x100_0_0_1_1_n_n 1 rfl rfl).symm, Fin.sum_univ_one,
    ones_apply, mul_one]
  refine shapeCast_apply _ _ _ _ ?_
  rw [Shape.rowMajor_val_one, Shape.rowMajor_val_two]
  show r.val = 0 * 2048 + r.val
  omega

/-! ## The two choices by column -/

/-- Every column number is below 100: the mask on the columns keeps them all. -/
theorem kept (r : Fin 2048) (c : Fin 100) :
    cmpi .slt (iota .tc S2048x100 32 [1] iota_S2048x100_d1_w32) (broadcast S2048x100 100#32) (ix2 r c) = 1#1 := by
  show IntOp.cmpi .slt (iota .tc S2048x100 32 [1] iota_S2048x100_d1_w32 (ix2 r c)) 100#32 = 1#1
  rw [iota_single_apply]
  exact (by decide : ∀ c : Fin 100, IntOp.cmpi .slt (BitVec.ofNat 32 c.val) 100#32 = 1#1) c

/-- The word of a class, read as a signed integer. -/
theorem toInt_class (c : Fin 100) : (BitVec.ofNat 32 c.val).toInt = (c.val : Int) :=
  (by decide : ∀ c : Fin 100, (BitVec.ofNat 32 c.val).toInt = (c.val : Int)) c

/-- Two classes are equal as floats exactly where they are equal. -/
theorem oeq_class (c l : Fin 100) :
    (FloatOps.cmpf .oeq (FloatOps.sitofp .f32 (BitVec.ofNat 32 c.val) : Ideal .f32)
      (FloatOps.sitofp .f32 (BitVec.ofNat 32 l.val) : Ideal .f32)) = if c = l then 1#1 else 0#1 := by
  show BitVec.ofBool (decide ((((BitVec.ofNat 32 c.val).toInt : ℝ) : EReal) = (((BitVec.ofNat 32 l.val).toInt : ℝ) : EReal))) = _
  rw [toInt_class, toInt_class]
  by_cases h : c = l
  · subst h
    simp
  · rw [if_neg h, decide_eq_false]
    · rfl
    · intro e
      exact h (Fin.ext (by exact_mod_cast EReal.coe_injective e))

/-! ## One window -/

/-- ONE WINDOW OF ROWS: the payload is the sum of the rows' losses at their labels. -/
theorem pay_quarter (x : FVec Ideal S2048x100 .f32) (lab : IVec S2048 32) (L : Fin 2048 → Fin 100)
    (hL : ∀ r, lab (ix1 r) = BitVec.ofNat 32 (L r).val) :
    k0_pay4 (F := Ideal) x lab = ∑ r : Fin 2048, Rows.rowLoss (fun c => x (ix2 r c)) (L r) := by
  unfold k0_pay4
  dsimp only
  unfold extractAt
  rw [shapeCast_apply _ _ _ (ix1 0) (by rw [Shape.rowMajor_val_one, Shape.rowMajor_val_three]; rfl)]
  refine (Ideal.multiReduction_add_total _ _ _ (by decide) _ _ _).trans ?_
  unfold shapeCast
  rw [Equiv.sum_comp (Shape.reshapeEquiv shapeCasts_S1x2048_S1x1x2048), sum_idx2, Fin.sum_univ_one]
  refine Finset.sum_congr rfl fun r _ => ?_
  unfold Rows.rowLoss Rows.sumExp
  rw [subf_apply]
  congr 1
  · show Ideal.log _ = _
    rw [sum_rows]
    refine congrArg Ideal.log (Finset.sum_congr rfl fun c _ => ?_)
    rw [select_apply, kept, select_one]
    rfl
  · rw [sum_rows]
    have hsel : ∀ c : Fin 100, select (cmpf .oeq (sitofp .f32 (iota .tc S2048x100 32 [1] iota_S2048x100_d1_w32))
        (matmul dot_S1x2048_S1x100_S2048x100_0_0_1_1_n_n none (shapeCast S1x2048 (sitofp .f32 lab) shapeCasts_S2048_S1x2048)
          (k0_pay3 (F := Ideal)) (constant S2048x100 .f32 0x00000000#32))) x
        (broadcast S2048x100 (Scalar.ofBits (F := Ideal) .f32 0x00000000#32)) (ix2 r c)
        = if c = L r then x (ix2 r c) else 0 := by
      intro c
      rw [select_apply, cmpf_apply, spread, sitofp_apply, sitofp_apply, iota_single_apply, hL, oeq_class]
      by_cases h : c = L r
      · rw [if_pos h, if_pos h, select_one]
      · rw [if_neg h, if_neg h, select_zero]
        exact Ideal.ofBits_zero_f32
    exact (Finset.sum_congr rfl fun c _ => hsel c).trans (by rw [Finset.sum_ite_eq' Finset.univ (L r), if_pos (Finset.mem_univ _)])

/-! ## The four windows -/

/-- What the body stores: the four windows' payloads, added up from the first, added to what the result held. -/
theorem pay_four {F : FTy → Type} [FloatOps F] (v4 : F .f32) (x0 x1 x2 x3 : FVec F S2048x100 .f32) (l0 l1 l2 l3 : IVec S2048 32) :
    k0_pay1 (k0_pay3 (F := F)) v4
      (k0_pay6 (k0_pay3 (F := F)) (k0_pay4 x0 l0) x1 l1 (iota .tc S2048x100 32 [1] iota_S2048x100_d1_w32) (k0_pay5 x1) x2 l2)
      x3 l3 (iota .tc S2048x100 32 [1] iota_S2048x100_d1_w32) 100#32
    = Scalar.addf v4 (Scalar.addf (Scalar.addf (Scalar.addf (k0_pay4 x0 l0) (k0_pay4 x1 l1)) (k0_pay4 x2 l2)) (k0_pay4 x3 l3)) := by
  rfl

end Cert.Quarter

end
-- ==== Proof.Outs.lean ====
/-
  What the kernel's body leaves in its one-element result at each of the two grid points, as an expression of the
  four windows of rows and labels the point sees. The first point resets the result to zero before it adds its
  windows' sum, the second adds its sum to what the first left and multiplies by the scale.
-/
module

public import proofs.«01_k».proof.Proof.Gen.KernelIdeal.Frame
public import proofs.«01_k».proof.Proof.Quarter
public import Idealize.ShloMosaic.Lib.Pipeline.Value
public import Idealize.ShloMosaic.Lib.Tactic

@[expose] public section

noncomputable section

namespace Cert.Outs

open Cert.KernelIdeal Cert.KernelIdeal.Gen Idealize.ShloMosaic Idealize.ShloMosaic.TcCoe

variable {F : FTy → Type} [FloatOps F]

/-- The offsets of a block of rows are zero. -/
theorem off_two : (![0, 0] : Fin 2 → Nat) = fun _ => 0 := funext fun a => by fin_cases a <;> rfl

/-- The offset of a block of labels is zero. -/
theorem off_one : (![0] : Fin 1 → Nat) = fun _ => 0 := funext fun a => by fin_cases a; rfl

/-- The sum of the four windows a grid point sees, in the body's order. -/
def fourSum (x0 x1 x2 x3 : Vec F S2048x100 .f32) (l0 l1 l2 l3 : Vec F S2048 .i32) : F .f32 :=
  Scalar.addf (Scalar.addf (Scalar.addf (k0_pay4 x0 l0) (k0_pay4 x1 l1)) (k0_pay4 x2 l2)) (k0_pay4 x3 l3)

/-- The first point: zero plus the sum of its windows. -/
theorem out_first (c : Dev nD) (i : grid0.Coords) (a1 : Memref sig .tc .vmem S2048x100 .f32) (h1 : a1.IsWhole)
    (a2 : Memref sig .tc .vmem S2048x100 .f32) (h2 : a2.IsWhole) (a3 : Memref sig .tc .vmem S2048x100 .f32) (h3 : a3.IsWhole)
    (a4 : Memref sig .tc .vmem S2048x100 .f32) (h4 : a4.IsWhole) (a5 : Memref sig .tc .vmem S2048 .i32) (h5 : a5.IsWhole)
    (a6 : Memref sig .tc .vmem S2048 .i32) (h6 : a6.IsWhole) (a7 : Memref sig .tc .vmem S2048 .i32) (h7 : a7.IsWhole)
    (a8 : Memref sig .tc .vmem S2048 .i32) (h8 : a8.IsWhole) (a9 : Memref sig .tc .smem S1x1 .f32) (h9 : a9.IsWhole)
    (hc0 : cond0_0 i) (hc1 : ¬cond0_1 i) (x0 x1 x2 x3 : Vec F S2048x100 .f32) (l0 l1 l2 l3 : Vec F S2048 .i32) :
    out0_A_8 c i a1 h1 a2 h2 a3 h3 a4 h4 a5 h5 a6 h6 a7 h7 a8 h8 a9 h9 hc0 hc1 x0 x1 x2 x3 l0 l1 l2 l3
      = fun _ => Scalar.addf (Scalar.ofBits .f32 0x00000000#32) (fourSum x0 x1 x2 x3 l0 l1 l2 l3) := by
  unfold out0_A_8
  rw [View.read_writes_eq_canon _ _ _ (cover0_A_8 c i a1 h1 a2 h2 a3 h3 a4 h4 a5 h5 a6 h6 a7 h7 a8 h8 a9 h9 hc0 hc1 x0 x1 x2 x3 l0 l1 l2 l3)]
  unfold kernelRun0_A
  dsimp only
  sl_unfold_words
  rw [View.canon_cons_unit_zero (S := S1x1) off_two]
  simp only [View.readAt_eq_ld, h1.read_unread, h2.read_unread, h3.read_unread, h4.read_unread, h5.read_unread,
    h6.read_unread, h7.read_unread, h8.read_unread, View.ld_unit_zero (S := S2048x100) off_two,
    View.ld_unit_zero (S := S2048) off_one]
  exact funext fun _ => Quarter.pay_four _ _ _ _ _ _ _ _ _

/-- The second point: what the first left plus the sum of its windows, scaled. -/
theorem out_second (c : Dev nD) (i : grid0.Coords) (a1 : Memref sig .tc .vmem S2048x100 .f32) (h1 : a1.IsWhole)
    (a2 : Memref sig .tc .vmem S2048x100 .f32) (h2 : a2.IsWhole) (a3 : Memref sig .tc .vmem S2048x100 .f32) (h3 : a3.IsWhole)
    (a4 : Memref sig .tc .vmem S2048x100 .f32) (h4 : a4.IsWhole) (a5 : Memref sig .tc .vmem S2048 .i32) (h5 : a5.IsWhole)
    (a6 : Memref sig .tc .vmem S2048 .i32) (h6 : a6.IsWhole) (a7 : Memref sig .tc .vmem S2048 .i32) (h7 : a7.IsWhole)
    (a8 : Memref sig .tc .vmem S2048 .i32) (h8 : a8.IsWhole) (a9 : Memref sig .tc .smem S1x1 .f32) (h9 : a9.IsWhole)
    (hc0 : ¬cond0_0 i) (hc1 : cond0_1 i) (x0 x1 x2 x3 : Vec F S2048x100 .f32) (l0 l1 l2 l3 : Vec F S2048 .i32)
    (o : Vec F S1x1 .f32) :
    out0_B_8 c i a1 h1 a2 h2 a3 h3 a4 h4 a5 h5 a6 h6 a7 h7 a8 h8 a9 h9 hc0 hc1 x0 x1 x2 x3 l0 l1 l2 l3 o
      = fun _ => Scalar.mulf (Scalar.addf (o (ValueIdx.ix2 0 0)) (fourSum x0 x1 x2 x3 l0 l1 l2 l3))
          (Scalar.ofBits .f32 0x38800000#32) := by
  unfold out0_B_8
  rw [View.read_writes_eq_canon _ _ _ (cover0_B_8 c i a1 h1 a2 h2 a3 h3 a4 h4 a5 h5 a6 h6 a7 h7 a8 h8 a9 h9 hc0 hc1 x0 x1 x2 x3 l0 l1 l2 l3 o)]
  unfold kernelRun0_B
  dsimp only
  sl_unfold_words
  rw [View.canon_cons_unit_zero (S := S1x1) off_two]
  simp only [View.readAt_eq_ld, h1.read_unread, h2.read_unread, h3.read_unread, h4.read_unread, h5.read_unread,
    h6.read_unread, h7.read_unread, h8.read_unread, View.ld_unit_zero (S := S2048x100) off_two,
    View.ld_unit_zero (S := S2048) off_one]
  rw [h9.read_unread, show View.ld o (Rect.unit ![0, 0] ![1, 1] inb_S1x1_S1x1_0_0) = o from View.ld_unit_zero (S := S1x1) off_two _ o]
  exact funext fun _ => congrArg k0_pay2 ((Quarter.pay_four _ _ _ _ _ _ _ _ _).trans
    (congrArg (fun j => Scalar.addf (o j) (fourSum x0 x1 x2 x3 l0 l1 l2 l3)) (funext fun a => by fin_cases a <;> rfl)))

end Cert.Outs

end
-- ==== Proof.Windows.lean ====
/-
  The windows of the kernel as rows of its arguments. At grid point `t` window `q` of the logits is the block of rows
  numbered `t + 2 q`, and window `q` of the labels the block of labels with the same number.
-/
module

public import proofs.«01_k».proof.Proof.Gen.KernelIdeal.Frame
public import proofs.«01_k».proof.Proof.Rows
public import Idealize.ShloMosaic.Lib.Pipeline.Value
public import Idealize.ShloMosaic.Lib.ValueIdx

@[expose] public section

noncomputable section

namespace Cert.Windows

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-- The logits the run starts from. -/
abbrev logits (c : Dev nD) : Vec F S16384x100 .f32 := m ((c : Thread nD τ).loc main_arg0)

/-- The labels the run starts from. -/
abbrev labels (c : Dev nD) : Vec F S16384 .i32 := m ((c : Thread nD τ).loc main_arg2)

/-- Block `b` of the rows of the logits. -/
def rows (x : Vec F S16384x100 .f32) (b : Fin 8) : Vec F S2048x100 .f32 := fun j => x (ix2 (Rows.rowOf b (j 0)) (j 1))

/-- Block `b` of the labels. -/
def labs (y : Vec F S16384 .i32) (b : Fin 8) : Vec F S2048 .i32 := fun j => y (ix1 (Rows.rowOf b (j 0)))

/-- Window 0, of the logits. -/
theorem blk_0 (c : Dev nD) (t : Fin cfg0.N) (b : Fin 8) (h0 : win0_0.index t 0 = b.val) (h1 : win0_0.index t 1 = 0) :
    (iblk m c 0 t : Vec F S2048x100 .f32) = rows (logits m c) b := by
  funext j
  unfold iblk
  rw [View.read_apply]
  show V m c main_arg0 _ = m (c.tc.loc main_arg0) _
  unfold V
  congr 1
  funext a
  apply Fin.ext
  match a with
  | ⟨0, _⟩ => show win0_0.index t 0 * 2048 + 1 * (j 0).val = 2048 * b.val + (j 0).val; rw [h0]; omega
  | ⟨1, _⟩ => show win0_0.index t 1 * 100 + 1 * (j 1).val = (j 1).val; rw [h1]; omega

/-- Window 1, of the logits. -/
theorem blk_1 (c : Dev nD) (t : Fin cfg0.N) (b : Fin 8) (h0 : win0_1.index t 0 = b.val) (h1 : win0_1.index t 1 = 0) :
    (iblk m c 1 t : Vec F S2048x100 .f32) = rows (logits m c) b := by
  funext j
  unfold iblk
  rw [View.read_apply]
  show V m c main_arg0 _ = m (c.tc.loc main_arg0) _
  unfold V
  congr 1
  funext a
  apply Fin.ext
  match a with
  | ⟨0, _⟩ => show win0_1.index t 0 * 2048 + 1 * (j 0).val = 2048 * b.val + (j 0).val; rw [h0]; omega
  | ⟨1, _⟩ => show win0_1.index t 1 * 100 + 1 * (j 1).val = (j 1).val; rw [h1]; omega

/-- Window 2, of the logits. -/
theorem blk_2 (c : Dev nD) (t : Fin cfg0.N) (b : Fin 8) (h0 : win0_2.index t 0 = b.val) (h1 : win0_2.index t 1 = 0) :
    (iblk m c 2 t : Vec F S2048x100 .f32) = rows (logits m c) b := by
  funext j
  unfold iblk
  rw [View.read_apply]
  show V m c main_arg0 _ = m (c.tc.loc main_arg0) _
  unfold V
  congr 1
  funext a
  apply Fin.ext
  match a with
  | ⟨0, _⟩ => show win0_2.index t 0 * 2048 + 1 * (j 0).val = 2048 * b.val + (j 0).val; rw [h0]; omega
  | ⟨1, _⟩ => show win0_2.index t 1 * 100 + 1 * (j 1).val = (j 1).val; rw [h1]; omega

/-- Window 3, of the logits. -/
theorem blk_3 (c : Dev nD) (t : Fin cfg0.N) (b : Fin 8) (h0 : win0_3.index t 0 = b.val) (h1 : win0_3.index t 1 = 0) :
    (iblk m c 3 t : Vec F S2048x100 .f32) = rows (logits m c) b := by
  funext j
  unfold iblk
  rw [View.read_apply]
  show V m c main_arg0 _ = m (c.tc.loc main_arg0) _
  unfold V
  congr 1
  funext a
  apply Fin.ext
  match a with
  | ⟨0, _⟩ => show win0_3.index t 0 * 2048 + 1 * (j 0).val = 2048 * b.val + (j 0).val; rw [h0]; omega
  | ⟨1, _⟩ => show win0_3.index t 1 * 100 + 1 * (j 1).val = (j 1).val; rw [h1]; omega

/-- Window 4, of the labels. -/
theorem blk_4 (c : Dev nD) (t : Fin cfg0.N) (b : Fin 8) (h0 : win0_4.index t 0 = b.val) :
    (iblk m c 4 t : Vec F S2048 .i32) = labs (labels m c) b := by
  funext j
  unfold iblk
  rw [View.read_apply]
  show V m c main_arg2 _ = m (c.tc.loc main_arg2) _
  unfold V
  congr 1
  funext a
  apply Fin.ext
  match a with
  | ⟨0, _⟩ => show win0_4.index t 0 * 2048 + 1 * (j 0).val = 2048 * b.val + (j 0).val; rw [h0]; omega

/-- Window 5, of the labels. -/
theorem blk_5 (c : Dev nD) (t : Fin cfg0.N) (b : Fin 8) (h0 : win0_5.index t 0 = b.val) :
    (iblk m c 5 t : Vec F S2048 .i32) = labs (labels m c) b := by
  funext j
  unfold iblk
  rw [View.read_apply]
  show V m c main_arg2 _ = m (c.tc.loc main_arg2) _
  unfold V
  congr 1
  funext a
  apply Fin.ext
  match a with
  | ⟨0, _⟩ => show win0_5.index t 0 * 2048 + 1 * (j 0).val = 2048 * b.val + (j 0).val; rw [h0]; omega

/-- Window 6, of the labels. -/
theorem blk_6 (c : Dev nD) (t : Fin cfg0.N) (b : Fin 8) (h0 : win0_6.index t 0 = b.val) :
    (iblk m c 6 t : Vec F S2048 .i32) = labs (labels m c) b := by
  funext j
  unfold iblk
  rw [View.read_apply]
  show V m c main_arg2 _ = m (c.tc.loc main_arg2) _
  unfold V
  congr 1
  funext a
  apply Fin.ext
  match a with
  | ⟨0, _⟩ => show win0_6.index t 0 * 2048 + 1 * (j 0).val = 2048 * b.val + (j 0).val; rw [h0]; omega

/-- Window 7, of the labels. -/
theorem blk_7 (c : Dev nD) (t : Fin cfg0.N) (b : Fin 8) (h0 : win0_7.index t 0 = b.val) :
    (iblk m c 7 t : Vec F S2048 .i32) = labs (labels m c) b := by
  funext j
  unfold iblk
  rw [View.read_apply]
  show V m c main_arg2 _ = m (c.tc.loc main_arg2) _
  unfold V
  congr 1
  funext a
  apply Fin.ext
  match a with
  | ⟨0, _⟩ => show win0_7.index t 0 * 2048 + 1 * (j 0).val = 2048 * b.val + (j 0).val; rw [h0]; omega

end Cert.Windows

end
-- ==== Proof.KernelRun.lean ====
/-
  The run of the whole kernel program: its result is the scaled total of the two grid points' sums, at any floats,
  and its arguments end as they began.
-/
module

public import proofs.«01_k».proof.Proof.Outs
public import proofs.«01_k».proof.Proof.Windows
public import Idealize.ShloMosaic.Lib.StableHlo.Run
public import Idealize.ShloMosaic.Lib.Quiescent

@[expose] public section

noncomputable section

namespace Cert.KernelRun

open Cert.KernelIdeal Cert.KernelIdeal.Gen Idealize.ShloMosaic Idealize.ShloMosaic.TcCoe Idealize.SL.Sem
open Idealize.ShloMosaic.Pipeline (Dat)
open Cert.Windows Cert.Outs

variable {F : FTy → Type} [FloatOps F]
variable (m : (ℓ : Loc nD τ sig) → Buf (Elt F) ℓ) (ρ : Dev nD → PrngReg)

/-- The sum of the four windows at grid point 0: the blocks 0, 2, 4 and 6. -/
def evenSum (x : Vec F S16384x100 .f32) (y : Vec F S16384 .i32) : F .f32 :=
  fourSum (rows x 0) (rows x 2) (rows x 4) (rows x 6) (labs y 0) (labs y 2) (labs y 4) (labs y 6)

/-- The sum of the four windows at grid point 1: the blocks 1, 3, 5 and 7. -/
def oddSum (x : Vec F S16384x100 .f32) (y : Vec F S16384 .i32) : F .f32 :=
  fourSum (rows x 1) (rows x 3) (rows x 5) (rows x 7) (labs y 1) (labs y 3) (labs y 5) (labs y 7)

/-- The kernel's loss: zero, the two points' sums, and the scale. -/
def total (x : Vec F S16384x100 .f32) (y : Vec F S16384 .i32) : F .f32 :=
  Scalar.mulf (Scalar.addf (Scalar.addf (Scalar.ofBits .f32 0x00000000#32) (evenSum x y)) (oddSum x y))
    (Scalar.ofBits .f32 0x38800000#32)

/-- What the result's buffer holds after the first point. -/
theorem after_first (c : Dev nD) : outsAt0 m c t0_0.val t0_0.isLt
    = fun _ => Scalar.addf (Scalar.ofBits .f32 0x00000000#32) (evenSum (logits m c) (labels m c)) := by
  rw [outsAt0_A m c t0_0 (by decide) (by decide), out_first,
    show (iblk m c 0 t0_0 : Vec F S2048x100 .f32) = _ from blk_0 m c t0_0 0 (by decide) (by decide),
    show (iblk m c 1 t0_0 : Vec F S2048x100 .f32) = _ from blk_1 m c t0_0 2 (by decide) (by decide),
    show (iblk m c 2 t0_0 : Vec F S2048x100 .f32) = _ from blk_2 m c t0_0 4 (by decide) (by decide),
    show (iblk m c 3 t0_0 : Vec F S2048x100 .f32) = _ from blk_3 m c t0_0 6 (by decide) (by decide),
    show (iblk m c 4 t0_0 : Vec F S2048 .i32) = _ from blk_4 m c t0_0 0 (by decide),
    show (iblk m c 5 t0_0 : Vec F S2048 .i32) = _ from blk_5 m c t0_0 2 (by decide),
    show (iblk m c 6 t0_0 : Vec F S2048 .i32) = _ from blk_6 m c t0_0 4 (by decide),
    show (iblk m c 7 t0_0 : Vec F S2048 .i32) = _ from blk_7 m c t0_0 6 (by decide)]
  rfl

/-- What the result's buffer holds after the second point. -/
theorem after_second (c : Dev nD) : outsAt0 m c t0_1.val t0_1.isLt = fun _ => total (logits m c) (labels m c) := by
  rw [outsAt0_B m c t0_1 (by decide) (by decide), out_second,
    show outsAt0 m c (t0_1.val - 1) _ = _ from after_first m c,
    show (iblk m c 0 t0_1 : Vec F S2048x100 .f32) = _ from blk_0 m c t0_1 1 (by decide) (by decide),
    show (iblk m c 1 t0_1 : Vec F S2048x100 .f32) = _ from blk_1 m c t0_1 3 (by decide) (by decide),
    show (iblk m c 2 t0_1 : Vec F S2048x100 .f32) = _ from blk_2 m c t0_1 5 (by decide) (by decide),
    show (iblk m c 3 t0_1 : Vec F S2048x100 .f32) = _ from blk_3 m c t0_1 7 (by decide) (by decide),
    show (iblk m c 4 t0_1 : Vec F S2048 .i32) = _ from blk_4 m c t0_1 1 (by decide),
    show (iblk m c 5 t0_1 : Vec F S2048 .i32) = _ from blk_5 m c t0_1 3 (by decide),
    show (iblk m c 6 t0_1 : Vec F S2048 .i32) = _ from blk_6 m c t0_1 5 (by decide),
    show (iblk m c 7 t0_1 : Vec F S2048 .i32) = _ from blk_7 m c t0_1 7 (by decide)]
  rfl

/-- The result array: its one element is the loss. -/
abbrev result (c : Dev nD) : Buf (Elt F) ((c : Thread nD τ).loc main_v0) := fun _ => total (logits m c) (labels m c)

/-- The one write-back is at the last point, and writes the loss. -/
theorem written (c : Dev nD) (t : Fin cfg0.N) (hf : (cfg0.win 8).flush t = true) :
    (dats m 0 c).flushed 8 t = ((cfg0.win 8).blk t).view.read (Elt F) (result m c) := by
  obtain rfl : t = t0_1 := by
    rcases fin_N0 t with h | h
    · subst h; exact absurd ((flush0_8 t0_0).mp hf) (by decide)
    · exact h
  show (cfg0.win 8).cut (grid0.coords t0_1) ((dats m 0 c).after 8 t0_1) = _
  rw [after0_8, after_second]
  rfl

/-- So the result array ends at the loss. -/
theorem final (c : Dev nD) : (dats m 0 c).arrAt 8 cfg0.N = result m c :=
  (dats m 0 c).arrAt_eq_of_cover 8 (result m c) (written m c) fun i =>
    ⟨t0_1, (flush0_8 t0_1).mpr rfl, by
      show i ∈ ((View.whole main_v0).slice (win0_8.rect t0_1)).set
      rw [View.set_slice_whole, Rect.mem_set_unit]
      intro a
      have h0 : (i 0 : Nat) < 1 := (i 0).isLt
      have h1 : (i 1 : Nat) < 1 := (i 1).isLt
      match a with
      | ⟨0, _⟩ =>
        show win0_8.index t0_1 0 * win0_8.size 0 ≤ (i 0 : Nat)
          ∧ (i 0 : Nat) < win0_8.index t0_1 0 * win0_8.size 0 + win0_8.xsize (grid0.coords t0_1) 0
        rw [show win0_8.index t0_1 0 * win0_8.size 0 = 0 from by decide +kernel,
          show win0_8.xsize (grid0.coords t0_1) 0 = 1 from by decide +kernel]
        omega
      | ⟨1, _⟩ =>
        show win0_8.index t0_1 1 * win0_8.size 1 ≤ (i 1 : Nat)
          ∧ (i 1 : Nat) < win0_8.index t0_1 1 * win0_8.size 1 + win0_8.xsize (grid0.coords t0_1) 1
        rw [show win0_8.index t0_1 1 * win0_8.size 1 = 0 from by decide +kernel,
          show win0_8.xsize (grid0.coords t0_1) 1 = 1 from by decide +kernel]
        omega⟩

/-- The program's scalar result, the one element of the result array. -/
theorem scalar (c : Dev nD) : Pipeline.afterTail₀ cfgs (dats m) 0 (V0 m) [hostOps1] c main_v1
    = fun _ => total (logits m c) (labels m c) := by
  have harr : Pipeline.withArrays (cfgs 0).spec c (V0 m c) (fun w => (dats m 0 c).arrAt w (cfgs 0).N)
      (Proc.devRef .tc main_v0) = result m c :=
    (Pipeline.withArrays_arr_shared (cfgs 0).spec c (V0 m c) _
      ((dats m 0 c).arrAt_sharedIn sharedIn0 (V0 m c) (fun w => A_eq m c w) _) 8).trans (final m c)
  unfold Pipeline.afterTail₀
  simp only [hostOps1, List.flatten_cons, List.flatten_nil, List.append_nil, StableHlo.after_cons, StableHlo.after_nil]
  refine (StableHlo.reshape_result main_v0 main_v1 _ _ _ _ _).trans ?_
  rw [harr]
  rfl

/-- The run, read: the loss, and the arguments as they began. -/
theorem run : θ_run defs (onTc (τ := τ) (main (F := F))) ⟨m, fun _ => 0, ρ⟩ fun r => ∀ c : Dev nD,
      r.2.mem ((c : Thread nD τ).loc main_v1) = (fun _ => total (logits m c) (labels m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).2 main_v1 (Pipeline.mem_restRefs_of main_v1 (by decide) (by decide))).trans (scalar m c),
      ((h c).1 3).trans (((dats m 0 c).arrAt_in 3 rfl _).trans ((A_eq m c 3).trans (V_main_arg0 m c))),
      ((h c).2 main_arg1 (Pipeline.mem_restRefs_of main_arg1 (by decide) (by decide))).trans (W_main_arg1 m (dats m) c),
      ((h c).1 7).trans (((dats m 0 c).arrAt_in 7 rfl _).trans ((A_eq m c 7).trans (V_main_arg2 m c))),
      ((h c).2 main_arg3 (Pipeline.mem_restRefs_of main_arg3 (by decide) (by decide))).trans (W_main_arg3 m (dats m) c)⟩)
    (run_main m ρ)

end Cert.KernelRun

end
-- ==== Proof.KernelValue.lean ====
/-
  The kernel's loss over the extended reals: the sum of the rows' losses over all the rows, scaled by one part in
  16384, whenever each label is the number of a class.
-/
module

public import proofs.«01_k».proof.Proof.KernelRun

@[expose] public section

noncomputable section

namespace Cert.KernelValue

open Cert.KernelIdeal Cert.KernelIdeal.Gen Idealize.ShloMosaic Idealize.ShloMosaic.ValueIdx
open Cert.Windows Cert.Outs Cert.KernelRun

/-- The loss of row `i` of the logits, at the class `L i`. -/
def lossOf (x : FVec Ideal S16384x100 .f32) (L : Fin 16384 → Fin 100) (i : Fin 16384) : EReal :=
  Rows.rowLoss (fun c => x (ix2 i c)) (L i)

variable (x : FVec Ideal S16384x100 .f32) (y : IVec S16384 32) (L : Fin 16384 → Fin 100)

/-- One window's payload is the sum of its rows' losses. -/
theorem pay_block (hL : ∀ i, y (ix1 i) = BitVec.ofNat 32 (L i).val) (b : Fin 8) :
    k0_pay4 (F := Ideal) (rows (F := Ideal) x b) (labs (F := Ideal) y b) = ∑ r : Fin 2048, lossOf x L (Rows.rowOf b r) :=
  Quarter.pay_quarter _ _ (fun r => L (Rows.rowOf b r)) fun r => hL _

/-- The kernel's loss is the scaled sum of all the rows' losses. -/
theorem total_eq (hL : ∀ i, y (ix1 i) = BitVec.ofNat 32 (L i).val) :
    total (F := Ideal) x y = (∑ i, lossOf x L i) * Ideal.ofBits .f32 0x38800000#32 := by
  have h : ∀ a b : EReal, (Scalar.addf (F := Ideal) (φ := .f32) a b : EReal) = a + b := fun _ _ => rfl
  unfold total evenSum oddSum fourSum
  simp only [pay_block x y L hL]
  rw [Rows.sum_blocks]
  simp only [Fin.sum_univ_eight]
  show (Ideal.ofBits .f32 0x00000000#32 + _ + _) * Ideal.ofBits .f32 0x38800000#32 = _
  rw [Ideal.ofBits_zero_f32, zero_add]
  congr 1
  simp only [h]
  ac_rfl

end Cert.KernelValue

end
-- ==== Proof.Words.lean ====
/-
  The words the two programs compute with: a conjunction or disjunction of one-bit words over a set, and the
  comparisons of a label that is the number of a class.
-/
module

public import Idealize.ShloMosaic.PureOps
public import Idealize.ShloMosaic.PureOps.Reduce
public import Idealize.ShloMosaic.Lib.StableHlo.Predicate
public import Mathlib.Data.Finset.Fold

@[expose] public section

noncomputable section

namespace Cert.Words

open Idealize.ShloMosaic

/-- Two one-bit words have the conjunction 1 exactly when both are 1. -/
theorem andi_one (a b : BitVec 1) : IntOp.andi a b = 1#1 ↔ a = 1#1 ∧ b = 1#1 := by
  revert a b; decide

/-- Two one-bit words have the disjunction 1 exactly when one of them is 1. -/
theorem ori_one (a b : BitVec 1) : IntOp.ori a b = 1#1 ↔ a = 1#1 ∨ b = 1#1 := by
  revert a b; decide

/-- The comparison of two words for inequality is 1 exactly when they differ. -/
theorem ne_one (a b : BitVec 32) : IntOp.cmpi .ne a b = 1#1 ↔ a ≠ b := by
  refine (StableHlo.Predicate.ofBool_eq_one_iff _).trans ?_
  simp

/-- A conjunction over an array's reduced axes is 1 exactly when it starts at 1 and every element that goes into it
    is 1. -/
theorem all_one {s t u : Shape} {axes : List (Fin s.rank)} (x : s.Idx → BitVec 1) (init : u.Idx → BitVec 1)
    (h : s.ReducesTo axes t) (hu : 0 < u.numel) (j : t.Idx) :
    Host.reduce IntOp.andi x init h hu j = 1#1
      ↔ init (Shape.Idx.first hu) = 1#1 ∧ ∀ i, h.drop i = j → x i = 1#1 := by
  rw [Host.reduce_eq_fold]
  refine (Finset.fold_op_rel_iff_and (r := fun _ y : BitVec 1 => y = 1#1) (c := 1#1) fun {_ y z} => andi_one y z).trans ?_
  simp

/-- A disjunction over an array's reduced axes is 1 exactly when it starts at 1 or an element that goes into it
    is 1. -/
theorem some_one {s t u : Shape} {axes : List (Fin s.rank)} (x : s.Idx → BitVec 1) (init : u.Idx → BitVec 1)
    (h : s.ReducesTo axes t) (hu : 0 < u.numel) (j : t.Idx) :
    Host.reduce IntOp.ori x init h hu j = 1#1
      ↔ init (Shape.Idx.first hu) = 1#1 ∨ ∃ i, h.drop i = j ∧ x i = 1#1 := by
  rw [Host.reduce_eq_fold]
  refine (Finset.fold_op_rel_iff_or (r := fun _ y : BitVec 1 => y = 1#1) (c := 1#1) fun {_ y z} => ori_one y z).trans ?_
  simp

/-- A class's number is not negative. -/
theorem not_slt (l : Fin 100) : IntOp.cmpi .slt (BitVec.ofNat 32 l.val) 0#32 = 0#1 := by
  revert l; decide

/-- A class's number is at least 0. -/
theorem sge (l : Fin 100) : IntOp.cmpi .sge (BitVec.ofNat 32 l.val) 0#32 = 1#1 := by
  revert l; decide

/-- A class's number is at most 99. -/
theorem sle (l : Fin 100) : IntOp.cmpi .sle (BitVec.ofNat 32 l.val) 99#32 = 1#1 := by
  revert l; decide

/-- A class's number, read as a signed word and cut off below 0 and above 99, is itself. -/
theorem clamp (l : Fin 100) : min (BitVec.ofNat 32 l.val).toInt.toNat 99 = l.val := by
  revert l; decide

/-- A word from 0 on and below 100 is a class's number. -/
theorem class_of (y : BitVec 32) (h0 : IntOp.cmpi .sge y 0#32 = 1#1) (h1 : IntOp.cmpi .slt y 100#32 = 1#1) :
    ∃ l : Fin 100, y = BitVec.ofNat 32 l.val := by
  have h0' : (0 : Int) ≤ y.toInt := by
    have h : (0#32).sle y = true := (StableHlo.Predicate.ofBool_eq_one_iff _).mp h0
    simpa [BitVec.sle] using h
  have h1' : y.toInt < 100 := by
    have h : y.slt 100#32 = true := (StableHlo.Predicate.ofBool_eq_one_iff _).mp h1
    simpa [BitVec.slt] using h
  have h2 : y.toNat < 100 := by
    have := y.isLt
    rw [BitVec.toInt_eq_toNat_cond] at h0' h1'
    split at h0' <;> omega
  exact ⟨⟨y.toNat, h2⟩, by simp⟩

end Cert.Words

end
-- ==== Proof.RefValue.lean ====
/-
  The reference's loss over the extended reals: the sum of the rows' losses over all the rows, scaled by one part in
  16384, whenever each label is the number of a class that the loss of its row is meant for.

  The reference takes the logarithm of the softmax of each row (the row less its greatest entry, less the logarithm
  of the sum of the exponentials of that), picks the entry at the label, and turns the sign of the mean. What it adds
  to that, zero times a second loss, is zero.
-/
module

public import proofs.«01_k».proof.Proof.Gen.ReferenceIdeal.Read
public import proofs.«01_k».proof.Proof.Rows
public import proofs.«01_k».proof.Proof.Words
public import Idealize.ShloMosaic.Lib.ValueIdx

@[expose] public section

noncomputable section

namespace Cert.RefValue

open Cert.ReferenceIdeal Cert.ReferenceIdeal.Gen Cert.ReferenceIdeal.Read Idealize.ShloMosaic Idealize.ShloMosaic.ValueIdx

/-! ## The labels -/

section Labels

variable (y : IVec S16384 32) (L : Fin 16384 → Fin 100) (hL : ∀ i, y (ix1 i) = BitVec.ofNat 32 (L i).val)

include hL

/-- A label that is not negative is left as it is. -/
theorem label_wrapped (k : S16384x1.Idx) : val_main_call3_v4 (F := Ideal) y k = BitVec.ofNat 32 (L (k 0)).val := by
  have h30 : val_main_v30 (F := Ideal) y k = BitVec.ofNat 32 (L (k 0)).val := by
    rw [val_main_v30_apply, eq_ix1 (idx_main_v30 k)]
    exact hL (k 0)
  rw [val_main_call3_v4_apply, val_main_call3_v1_apply, h30, val_main_call3_v0_apply, val_main_call3_c_apply, Words.not_slt]
  exact select_zero _ _

/-- The label as the index to take along its row. -/
theorem label_index (k : S16384x1x1.Idx) : val_main_call3_v5 (F := Ideal) y k = BitVec.ofNat 32 (L (k 0)).val := by
  rw [val_main_call3_v5_apply, label_wrapped y L hL]
  have h : (idx_main_call3_v5 k 0 : Fin 16384) = k 0 := Fin.ext (by
    have h1 : (k 1).val < 1 := (k 1).isLt
    have h2 : (k 2).val < 1 := (k 2).isLt
    show (((k 0).val * 1 + (k 1).val) * 1 + (k 2).val) / 1 = (k 0).val
    omega)
  rw [show L (idx_main_call3_v5 k 0) = L (k 0) from congrArg L h]

/-- Every label is found in range. -/
theorem label_in_range (j : S16384x1.Idx) : val_main_call3_v12 (F := Ideal) y j = 1#1 := by
  unfold val_main_call3_v12
  refine (Words.all_one _ _ _ _ _).mpr ⟨rfl, fun k _ => ?_⟩
  rw [val_main_call3_v11_apply, Words.andi_one, val_main_call3_v7_apply, val_main_call3_v10_apply, label_index y L hL,
    val_main_call3_v6_apply, val_main_call3_c_2_apply, val_main_call3_v9_apply, val_main_call3_v8_apply,
    val_main_call3_c_1_apply]
  exact ⟨Words.sge _, Words.sle _⟩

/-- What is taken along row `i` is the entry at its label. -/
theorem taken (z : FVec Ideal S16384x100 .f32) (i : Fin 16384) :
    Host.gather gather_S16384x100_S16384x1x1_S16384x1_n_1_0_0_1_2_11 z (val_main_call3_v5 (F := Ideal) y) (ix2 i 0)
      = z (ix2 i (L i)) := by
  unfold Host.gather
  congr 1
  funext a
  refine Fin.ext ?_
  show GatherDims.start _ _ _ a + GatherDims.batchCoord _ _ a + GatherDims.offCoord _ _ a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    refine (dif_pos (show (0 : Fin 2) ∈ gather_S16384x100_S16384x1x1_S16384x1_n_1_0_0_1_2_11.operandBatchingDims from
      List.mem_singleton.mpr rfl)).trans ?_
    rfl
  | ⟨1, _⟩ =>
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    refine (dif_pos (show (1 : Fin 2) ∈ gather_S16384x100_S16384x1x1_S16384x1_n_1_0_0_1_2_11.startIndexMap from
      List.mem_singleton.mpr rfl)).trans ?_
    rw [label_index y L hL]
    exact Words.clamp (L i)

end Labels

/-! ## The rows -/

variable (x : FVec Ideal S16384x100 .f32)

/-- The greatest entry of row `i`, as the reference finds it. -/
theorem greatest (i : S16384.Idx) :
    val_main_call2_v2 (F := Ideal) x i = Rows.greatest fun c : Fin 100 => x (ix2 (i 0) c) := by
  have h0 : val_main_call2_v0 (F := Ideal) x i = Rows.greatest fun c : Fin 100 => x (ix2 (i 0) c) := by
    unfold val_main_call2_v0 Rows.greatest
    rw [Host.reduce_eq_fold_single _ _ _ reducesTo_S16384x100_S16384_d1 (by decide)]
    refine (congrArg (fun b : EReal => Finset.univ.fold max b _) Rows.ofBits_bot).trans ?_
    refine congrArg (Finset.univ.fold max (⊥ : EReal)) (funext fun c => congrArg x (funext fun a => Fin.ext ?_))
    match a with
    | ⟨0, _⟩ => rfl
    | ⟨1, _⟩ => rfl
  rw [val_main_call2_v2_apply, h0, val_main_call2_v1_apply, val_main_call2_cst_0_apply]
  show max (Ideal.ofBits .f32 0xFF800000#32) _ = _
  rw [Rows.ofBits_bot, max_eq_right bot_le]

/-- Row `i` less its greatest entry. -/
theorem shifted (i : Fin 16384) (c : Fin 100) :
    val_main_call2_v5 (F := Ideal) x (ix2 i c) = x (ix2 i c) - Rows.greatest fun c : Fin 100 => x (ix2 i c) := by
  rw [val_main_call2_v5_apply, val_main_call2_v4_apply, val_main_call2_v3_apply, greatest]
  rfl

/-- The logarithm of the sum of the exponentials of row `i` less its greatest entry. -/
theorem log_sum (i : Fin 16384) (c : Fin 100) : val_main_call2_v10 (F := Ideal) x (ix2 i c)
    = Ideal.log (∑ c : Fin 100, Ideal.exp (x (ix2 i c) - Rows.greatest fun c : Fin 100 => x (ix2 i c))) := by
  rw [val_main_call2_v10_apply, val_main_call2_v9_apply, val_main_call2_v8_apply, val_main_call2_v7_apply,
    val_main_call2_cst_1_apply]
  show Ideal.log (Ideal.ofBits .f32 0x00000000#32 + _) = _
  rw [Ideal.ofBits_zero_f32, zero_add]
  refine congrArg Ideal.log (Finset.sum_congr rfl fun k _ => ?_)
  rw [val_main_call2_v6_apply, eq_ix2 (idx_main_call2_v7 _ k)]
  exact congrArg Ideal.exp (shifted x i k)

/-- The logarithm of the softmax of a row, at a good class: the row's loss at the class, its sign turned. -/
theorem log_softmax (i : Fin 16384) (l : Fin 100) (h : Rows.Good (fun c : Fin 100 => x (ix2 i c)) l) :
    val_main_v29 (F := Ideal) x (ix2 i l) = -Rows.rowLoss (fun c => x (ix2 i c)) l := by
  rw [val_main_v29_apply, shifted, log_sum]
  exact Rows.shifted_eq_neg h

/-! ## The loss -/

variable (w : FVec Ideal S1000000x100 .f32) (y u : IVec S16384 32) (L : Fin 16384 → Fin 100)
  (hL : ∀ i, y (ix1 i) = BitVec.ofNat 32 (L i).val) (hx : ∀ i, Rows.Good (fun c : Fin 100 => x (ix2 i c)) (L i))

include hL hx

/-- The entry the reference picks from a row. -/
theorem picked (i : Fin 16384) :
    val_main_v31 (F := Ideal) x y (ix2 i 0) = -Rows.rowLoss (fun c => x (ix2 i c)) (L i) := by
  rw [val_main_v31_apply, label_in_range y L hL, select_one]
  unfold val_main_call3_v13
  rw [taken y L hL]
  exact log_softmax x i (L i) (hx i)

/-- The sum of what the reference picks. -/
theorem picked_sum (k : S_.Idx) :
    val_main_v32 (F := Ideal) x y k = -∑ i : Fin 16384, Rows.rowLoss (fun c => x (ix2 i c)) (L i) := by
  rw [val_main_v32_apply, val_main_cst_8_apply]
  show Ideal.ofBits .f32 0x00000000#32 + _ = _
  rw [Ideal.ofBits_zero_f32, zero_add, ← Rows.sum_neg Finset.univ _ fun i _ => Rows.rowLoss_ne_bot (hx i)]
  refine (sum_idx2 _).trans (Finset.sum_congr rfl fun i _ => ?_)
  rw [Fin.sum_univ_one]
  exact picked x y L hL hx i

/-- The reference's loss is the scaled sum of all the rows' losses. -/
theorem loss_eq (k : S_.Idx) : val_main_v44 (F := Ideal) x w y u k
    = (∑ i : Fin 16384, Rows.rowLoss (fun c => x (ix2 i c)) (L i)) * Ideal.ofBits .f32 0x38800000#32 := by
  rw [val_main_v44_apply, val_main_v34_apply, val_main_v33_apply, picked_sum x y L hL hx, val_main_cst_9_apply,
    val_main_v43_apply, val_main_cst_14_apply]
  show -Ideal.div _ (Ideal.ofBits .f32 0x46800000#32) + Ideal.ofBits .f32 0x00000000#32 * _ = _
  rw [Ideal.ofBits_zero_f32, zero_mul, add_zero]
  exact Rows.mean_eq _

end Cert.RefValue

end
-- ==== Proof.Pre.lean ====
/-
  What the precondition says of the arguments: every label is the number of a class that the loss of its row is meant
  for.
-/
module

public import proofs.«01_k».proof.Pre_inputs_ok
public import proofs.«01_k».proof.Proof.Rows
public import proofs.«01_k».proof.Proof.Words
public import Idealize.ShloMosaic.PureOps.Ideal
public import Idealize.ShloMosaic.Lib.ValueIdx

@[expose] public section

noncomputable section

namespace Cert.Pre

open Cert.Pre_inputs_ok Idealize.ShloMosaic Idealize.ShloMosaic.ValueIdx

/-- The shapes the precondition's operations join fit. -/
instance facts : Cert.Pre_inputs_ok.Facts where
  bcast_S100_S1x100_1 := by decide
  bcast_S16384_S16384x1_0 := by decide
  bcast_S1x100_S16384x100_0_1 := by decide
  bcast_S16384x1_S16384x100_0_1 := by decide
  bcast_S_S16384x100 := by decide
  reducesTo_S16384x100_S_d0_1 := by decide
  h_S_ := by decide
  reducesTo_S16384x100_S16384_d1 := by decide
  reducesTo_S16384_S_d0 := by decide
  bcast_S_S16384 := by decide

/-- A scalar has one index. -/
theorem scalar_idx (i j : S_.Idx) : i = j := funext fun a => a.elim0

/-- An entry of the logits that lies under an element of the reduced rows lies in its row. -/
theorem row_of_drop (k : S16384x100.Idx) (i : Fin 16384)
    (h : Facts.reducesTo_S16384x100_S16384_d1.drop k = ix1 i) : k 0 = i :=
  Fin.ext (congrArg (fun j : S16384.Idx => (j 0).val) h)

/-- A comparison of extended reals that came out 1 holds. -/
theorem cmp_holds {P : Prop} [Decidable P] (h : BitVec.ofBool (decide P) = 1#1) : P :=
  of_decide_eq_true ((StableHlo.Predicate.ofBool_eq_one_iff _).mp h)

variable (x : FVec Ideal S16384x100 .f32) (w : FVec Ideal S1000000x100 .f32) (y u : IVec S16384 32)

/-- The precondition, read. -/
theorem read (h : fn (F := Ideal) x w y u = fun _ => 1#1) : ∃ L : Fin 16384 → Fin 100,
    (∀ i, y (ix1 i) = BitVec.ofNat 32 (L i).val) ∧ ∀ i, Rows.Good (fun c : Fin 100 => x (ix2 i c)) (L i) := by
  obtain ⟨h', hlab⟩ := (Words.andi_one _ _).mp (congrFun h ix0)
  obtain ⟨hbelow, hsome⟩ := (Words.andi_one _ _).mp h'
  have below := ((Words.all_one _ _ _ _ _).mp hbelow).2
  have some := ((Words.all_one _ _ _ _ _).mp hsome).2
  have lab := ((Words.all_one _ _ _ _ _).mp hlab).2
  have hl : ∀ i : Fin 16384, ∃ l : Fin 100, y (ix1 i) = BitVec.ofNat 32 l.val := fun i => by
    obtain ⟨h0, h1⟩ := (Words.andi_one _ _).mp (lab (ix1 i) (scalar_idx _ _))
    exact Words.class_of _ h0 h1
  choose L hL using hl
  refine ⟨L, hL, fun i => ⟨?_, ?_⟩⟩
  · obtain hne | hlt := (Words.ori_one _ _).mp (below (ix2 i (L i)) (scalar_idx _ _))
    · exact absurd ((congrArg y (eq_ix1 _)).trans (hL i)).symm ((Words.ne_one _ _).mp hne)
    · exact lt_of_lt_of_eq (cmp_holds hlt) Rows.ofBits_top
  · obtain h0 | ⟨k, hk, hx⟩ := (Words.some_one _ _ _ _ _).mp (some (ix1 i) (scalar_idx _ _))
    · exact absurd h0 (by decide)
    · refine ⟨k 1, ?_⟩
      have hc := cmp_holds hx
      rw [eq_ix2 k, row_of_drop k i hk] at hc
      exact lt_of_eq_of_lt Rows.ofBits_bot.symm hc

end Cert.Pre

end
-- ==== Proof.lean ====
/-
  The proof of `Cert.Claim` (proofs.«01_k».proof.Defs): the kernel, its idealization and the reference run with their
  arguments unchanged and every semaphore at zero, and, over the extended reals, the kernel's loss is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were, and, having no semaphore, ends with all of them at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3))
        ∧ r.2.sem = fun _ => 0) :=
  (θ_run Cert.ReferenceIdeal.defs _ _).mono (fun r h => ⟨fun c => (h c).2, sem_eq_zero_of_no_sems rfl r.2⟩)
    (Cert.ReferenceIdeal.Value.run m g)

/-- Under the precondition the kernel's loss and the reference's are one number. -/
theorem losses_eq (x : FVec Ideal Cert.Pre_inputs_ok.S16384x100 .f32) (w : FVec Ideal Cert.Pre_inputs_ok.S1000000x100 .f32)
    (y u : IVec Cert.Pre_inputs_ok.S16384 32) (h : Cert.Pre_inputs_ok.fn (F := Ideal) x w y u = fun _ => 1#1)
    (k : Cert.ReferenceIdeal.S_.Idx) :
    Cert.ReferenceIdeal.Read.val_main_v44 (F := Ideal) x w y u k = Cert.KernelRun.total (F := Ideal) x y := by
  obtain ⟨L, hL, hx⟩ := Cert.Pre.read x w y u h
  rw [Cert.RefValue.loss_eq x w y u L hL hx]
  exact (Cert.KernelValue.total_eq x y L hL).symm

/-- Over the extended reals, from memories with equal arguments, the kernel and the reference end with equal losses. -/
theorem algebraic : Cert.algebraic_KernelIdeal_ReferenceIdeal_pre_inputs_ok := by
  intro m g m' g' hpre hagree
  refine ⟨fun c _ => Cert.KernelRun.total (Cert.Windows.logits m c) (Cert.Windows.labels m c), Cert.KernelRun.run m g, ?_⟩
  refine (θ_run Cert.ReferenceIdeal.defs _ _).mono (fun r h c => ⟨?_, (h c).2⟩) (Cert.ReferenceIdeal.Value.run m' g')
  obtain ⟨h0, h1, h2, h3⟩ := hagree c
  refine (h c).1.trans ?_
  rw [Cert.ReferenceIdeal.Read.val_main_v44_eq, h0, h1, h2, h3]
  exact funext fun k => losses_eq _ _ _ _ (hpre c) k

theorem claim : Cert.Claim :=
  ⟨Cert.Kernel.Gen.facts, Cert.KernelIdeal.Gen.facts, Cert.ReferenceIdeal.Gen.facts, Cert.Pre.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, algebraic⟩

end Cert.Proof

end
